-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "slope" .f32 0xBC93A762#32 ((-((Real.log 10000) * 511⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096 : Shape := ⟨2, ![4, 4096]⟩
abbrev S51x1024 : Shape := ⟨2, ![51, 1024]⟩
abbrev S8192x1024 : Shape := ⟨2, ![8192, 1024]⟩
abbrev S1024x1024 : Shape := ⟨2, ![1024, 1024]⟩
abbrev S1024x512 : Shape := ⟨2, ![1024, 512]⟩
abbrev S1x512 : Shape := ⟨2, ![1, 512]⟩
abbrev S16x512 : Shape := ⟨2, ![16, 512]⟩
abbrev S32x512 : Shape := ⟨2, ![32, 512]⟩
abbrev S64x512 : Shape := ⟨2, ![64, 512]⟩
abbrev S128x512 : Shape := ⟨2, ![128, 512]⟩
abbrev S256x512 : Shape := ⟨2, ![256, 512]⟩
abbrev S512x512 : Shape := ⟨2, ![512, 512]⟩
abbrev S1024 : Shape := ⟨1, ![1024]⟩
abbrev S1x1024 : Shape := ⟨2, ![1, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4x4096, .i32⟩
  | .hbm, ⟨1, _⟩ => ⟨S51x1024, .f32⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== KernelIdeal.lean ====
variable {F : FTy → Type} [FloatOps F] [Named F]
def κ : String → Option EReal := fun
  | "slope" => some ((-((Real.log 10000) * 511⁻¹) : ℝ) : EReal)
  | _ => none
-- ==== ReferenceIdeal.lean ====
abbrev S4x4096 : Shape := ⟨2, ![4, 4096]⟩
abbrev S51x1024 : Shape := ⟨2, ![51, 1024]⟩
abbrev S_ : Shape := ⟨0, ![]⟩
abbrev S512 : Shape := ⟨1, ![512]⟩
abbrev S8192 : Shape := ⟨1, ![8192]⟩
abbrev S8192x1 : Shape := ⟨2, ![8192, 1]⟩
abbrev S1x512 : Shape := ⟨2, ![1, 512]⟩
abbrev S8192x512 : Shape := ⟨2, ![8192, 512]⟩
abbrev S8192x1024 : Shape := ⟨2, ![8192, 1024]⟩
abbrev S1 : Shape := ⟨1, ![1]⟩
abbrev S1024 : Shape := ⟨1, ![1024]⟩
abbrev S1x1 : Shape := ⟨2, ![1, 1]⟩

abbrev nBuf : Space → Nat
  | .hbm => 58
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S51x1024, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S1x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x1024, .f32⟩
  | .hbm, ⟨23, _⟩ => ⟨S_, .i32⟩
  | .hbm, ⟨24, _⟩ => ⟨S1, .i32⟩
  | .hbm, ⟨25, _⟩ => ⟨S_, .f32⟩
  | .hbm, ⟨26, _⟩ => ⟨S1024, .f32⟩
  | .hbm, ⟨27, _⟩ => ⟨S8192x1024, .f32⟩
  | .hbm, ⟨28, _⟩ => ⟨S8192, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S1, .i32⟩
  | .hbm, ⟨44, _⟩ => ⟨S_, .i32⟩
  | .hbm, ⟨45, _⟩ => ⟨S8192x1, .i32⟩
  | .hbm, ⟨46, _⟩ => ⟨S8192x1, .i1⟩
  | .hbm, ⟨47, _⟩ => ⟨S1x1, .i32⟩
  | .hbm, ⟨48, _⟩ => ⟨S8192x1, .i32⟩
  | .hbm, ⟨49, _⟩ => ⟨S8192x1, .i1⟩
  | .hbm, ⟨50, _⟩ => ⟨S8192x1, .i1⟩
  | .hbm, ⟨51, _⟩ => ⟨S_, .i1⟩
  | .hbm, ⟨52, _⟩ => ⟨S8192, .i1⟩
  | .hbm, ⟨53, _⟩ => ⟨S8192x1024, .f32⟩
  | .hbm, ⟨54, _⟩ => ⟨S8192x1024, .i1⟩
  | .hbm, ⟨55, _⟩ => ⟨S_, .f32⟩
  | .hbm, ⟨56, _⟩ => ⟨S8192x1024, .f32⟩
  | .hbm, ⟨57, _⟩ => ⟨S8192x1024, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_cst : Ref sig .tc := ⟨.hbm, 55, rfl⟩
abbrev main_call0_v15 : Ref sig .tc := ⟨.hbm, 56, rfl⟩
abbrev main_v26 : Ref sig .tc := ⟨.hbm, 57, rfl⟩

abbrev nD : Nat := 1
abbrev τ : Topo := Topo.v7x

variable {F : FTy → Type} [FloatOps F]
-- ==== Proof.Consts.lean ====
/-
The constants the two programs spell, as the real numbers they stand for.
-/
module

public import proofs.«01_k».proof.KernelIdeal
public import Idealize.ShloMosaic.PureOps.Ideal
public import Idealize.ShloMosaic.PureOps.IdealRules

@[expose] public section

noncomputable section

namespace Cert.Proof.Consts

open Idealize.ShloMosaic

/-- The exponent's slope: minus the logarithm of 10000, over 511. -/
def slope : ℝ := -(Real.log 10000 * 511⁻¹)

/-- The kernel's named constant is the slope. -/
theorem named_slope : (Named.named (F := Ideal) Cert.KernelIdeal.κ "slope" 0xBC93A762#32 : Ideal .f32) = (slope : EReal) :=
  IdealRules.named_const.ideal_named_scalar _ _ _ _ rfl

/-- The word of 16 stands for 16. -/
theorem word_16 : Ideal.ofBits .f32 0x41800000#32 = ((16 : ℝ) : EReal) := by
  simp [Ideal.ofBits, Ideal.ieee, -EReal.coe_mul]; norm_num

/-- The word of 32 stands for 32. -/
theorem word_32 : Ideal.ofBits .f32 0x42000000#32 = ((32 : ℝ) : EReal) := by
  simp [Ideal.ofBits, Ideal.ieee, -EReal.coe_mul]; norm_num

/-- The word of 64 stands for 64. -/
theorem word_64 : Ideal.ofBits .f32 0x42800000#32 = ((64 : ℝ) : EReal) := by
  simp [Ideal.ofBits, Ideal.ieee, -EReal.coe_mul]; norm_num

/-- The word of 128 stands for 128. -/
theorem word_128 : Ideal.ofBits .f32 0x43000000#32 = ((128 : ℝ) : EReal) := by
  simp [Ideal.ofBits, Ideal.ieee, -EReal.coe_mul]; norm_num

/-- The word of 256 stands for 256. -/
theorem word_256 : Ideal.ofBits .f32 0x43800000#32 = ((256 : ℝ) : EReal) := by
  simp [Ideal.ofBits, Ideal.ieee, -EReal.coe_mul]; norm_num

/-- The word of 512 stands for 512. -/
theorem word_512 : Ideal.ofBits .f32 0x44000000#32 = ((512 : ℝ) : EReal) := by
  simp [Ideal.ofBits, Ideal.ieee, -EReal.coe_mul]; norm_num

/-- The word of 10000 stands for 10000. -/
theorem word_10000 : Ideal.ofBits .f32 0x461C4000#32 = ((10000 : ℝ) : EReal) := by
  simp [Ideal.ofBits, Ideal.ieee, -EReal.coe_mul]; norm_num

/-- The word of 511 stands for 511. -/
theorem word_511 : Ideal.ofBits .f32 0x43FF8000#32 = ((511 : ℝ) : EReal) := by
  simp [Ideal.ofBits, Ideal.ieee, -EReal.coe_mul]; norm_num

/-- The word of minus 4096 stands for minus 4096. -/
theorem word_neg_4096 : Ideal.ofBits .f32 0xC5800000#32 = ((-4096 : ℝ) : EReal) := by
  simp [Ideal.ofBits, Ideal.ieee, -EReal.coe_mul]; norm_num

/-- The zero word stands for zero. -/
theorem word_0 : Ideal.ofBits .f32 0x00000000#32 = (0 : EReal) := by
  simp [Ideal.ofBits, Ideal.ieee]

end Cert.Proof.Consts

end
-- ==== Proof.Angles.lean ====
/-
The functions the tables and the result are read against, and the two addition formulas on finite extended reals.
-/
module

public import proofs.«01_k».proof.Proof.Consts

@[expose] public section

noncomputable section

namespace Cert.Proof

open Idealize.ShloMosaic Cert.Proof.Consts

/-- The frequency of column `j`: the exponential of `j` times the slope. -/
def freq (j : ℕ) : ℝ := Real.exp ((j : ℝ) * slope)

/-- What the sine table holds: at row `r` and column `j` the sine of `r` frequencies. -/
def sinRow (y : (⟨2, ![1024, 512]⟩ : Shape).Idx) : EReal := ((Real.sin (((y 0).val : ℝ) * freq (y 1).val) : ℝ) : EReal)

/-- What the cosine table holds: at row `r` and column `j` the cosine of `r` frequencies. -/
def cosRow (y : (⟨2, ![1024, 512]⟩ : Shape).Idx) : EReal := ((Real.cos (((y 0).val : ℝ) * freq (y 1).val) : ℝ) : EReal)

/-- The position row `r` of the result stands for. -/
def pos (r : ℕ) : ℝ := (r : ℝ) - 4096

/-- A row of sines and then cosines: the left half holds sines and the right half cosines, of the row's position times the
    column's frequency. -/
def halves (r k : ℕ) : EReal :=
  if k < 512 then ((Real.sin (pos r * freq k) : ℝ) : EReal) else ((Real.cos (pos r * freq (k - 512)) : ℝ) : EReal)

/-- The result: row 0 is zero, and every other row is its sines and cosines. -/
def embedding (r k : ℕ) : EReal := if r = 0 then 0 else halves r k

/-- The sine of a sum, on the extended reals. -/
theorem sin_turn (a b : ℝ) : (Real.sin a : EReal) * (Real.cos b : EReal) + (Real.cos a : EReal) * (Real.sin b : EReal)
    = ((Real.sin (a + b) : ℝ) : EReal) := by
  rw [Real.sin_add]; push_cast; rfl

/-- The cosine of a sum, on the extended reals. -/
theorem cos_turn (a b : ℝ) : (Real.cos a : EReal) * (Real.cos b : EReal) - (Real.sin a : EReal) * (Real.sin b : EReal)
    = ((Real.cos (a + b) : ℝ) : EReal) := by
  rw [Real.cos_add]; push_cast; rfl

end Cert.Proof

end
-- ==== Proof.Doubling.lean ====
/-
How the tables are filled: a list of stores that holds the right sines and cosines in its first `n` rows holds them in its
first `2n` rows after one doubling step.
-/
module

public import proofs.«01_k».proof.Proof.Angles
public import Idealize.ShloMosaic.Lib.Pipeline.ReadBack
public import Idealize.ShloMosaic.Lib.Pipeline.FrameBody
public import Idealize.ShloMosaic.Lib.ValueIdx

@[expose] public section

set_option maxRecDepth 16384

noncomputable section

namespace Cert.Proof

open Idealize.ShloMosaic Cert.Proof.Consts

/-- A table of 1024 rows and 512 columns. -/
abbrev Tab : Shape := ⟨2, ![1024, 512]⟩

/-- The first `n` rows of the two tables, `n` rows of 512 columns. -/
abbrev Rows (n : ℕ) : Shape := ⟨2, ![n, 512]⟩

/-- A list of stores into a table. -/
abbrev Stores := List (View.Piece (Elt Ideal) Tab .f32)

/-- The first `n` rows that the stores leave are those of `G`. -/
def Filled (G : Tab.Idx → EReal) (n : ℕ) (L : Stores) : Prop :=
  ∀ y : Tab.Idx, (y 0).val < n → View.canon L y = G y

/-- No rows are filled before any store. -/
theorem filled_zero (G : Tab.Idx → EReal) : Filled G 0 [] := fun _ h => absurd h (Nat.not_lt_zero _)

/-- One more store, a block of `G` over rectangle `R`, fills the rows below `n'` when `R` holds those from `n` on. -/
theorem filled_store {G : Tab.Idx → EReal} {n n' : ℕ} {L : Stores} (h : Filled G n L) (R : Rect Tab)
    (hR : ∀ y : Tab.Idx, n ≤ (y 0).val → (y 0).val < n' → y ∈ R.set) (w : R.shape.Idx → Elt Ideal .f32)
    (hw : ∀ x, w x = G (R.emb x)) : Filled G n' (⟨R, w⟩ :: L) := by
  intro y hy
  by_cases hm : y ∈ R.set
  · obtain ⟨x, hx⟩ := R.exists_idx_of_mem hm
    have hx' : R.emb x = y := hx
    rw [← hx', View.canon_cons_emb]
    exact hw x
  · rw [View.canon_cons_of_not_mem _ _ hm]
    exact h y (Nat.lt_of_not_le fun hle => hm (hR y hle hy))

/-- One more store, of the `k` rows from row `n` on, fills `n + k` rows. -/
theorem filled_cons {G : Tab.Idx → EReal} {n k : ℕ} {L : Stores} (h : Filled G n L)
    (inb : ∀ a, ![n, 0] a + ![k, 512] a ≤ Tab.size a) (w : (Rect.unit (s := Tab) ![n, 0] ![k, 512] inb).shape.Idx → Elt Ideal .f32)
    (hw : ∀ x, w x = G ((Rect.unit (s := Tab) ![n, 0] ![k, 512] inb).emb x)) :
    Filled G (n + k) (⟨Rect.unit (s := Tab) ![n, 0] ![k, 512] inb, w⟩ :: L) := by
  refine filled_store h _ (fun y hle hlt => ?_) w hw
  rw [Rect.mem_set_unit, Fin.forall_fin_two]
  have h1 : (y 1).val < 512 := (y 1).isLt
  exact ⟨⟨hle, hlt⟩, ⟨Nat.zero_le _, by show (y 1).val < 0 + 512; omega⟩⟩

/-- A load of the first `n` rows reads `G` there. -/
theorem filled_read {G : Tab.Idx → EReal} {n : ℕ} {L : Stores} (h : Filled G n L) {sig : RefSig} {κ : Kind} {sp : Space}
    (v : View sig κ sp Tab .f32) (inb : ∀ a, ![0, 0] a + ![n, 512] a ≤ Tab.size a) (x : (Rows n).Idx) :
    v.readCov L (Rect.unit (s := Tab) ![0, 0] ![n, 512] inb).toLoadRect x = G ((Rect.unit (s := Tab) ![0, 0] ![n, 512] inb).emb x) := by
  rw [View.readCov_eq_canon']
  refine h _ ?_
  show 0 + 1 * (x 0).val < n
  have := (x 0).isLt
  simp at this ⊢
  omega

/-- One doubling step: the next `n` rows of each table are the first `n` turned by `n` frequencies. -/
theorem filled_double {n : ℕ} {LS LC : Stores} (hS : Filled sinRow n LS) (hC : Filled cosRow n LC)
    {sig : RefSig} {κ : Kind} {sp : Space} (vS vC : View sig κ sp Tab .f32)
    (inb0 : ∀ a, ![0, 0] a + ![n, 512] a ≤ Tab.size a) (inb : ∀ a, ![n, 0] a + ![n, 512] a ≤ Tab.size a)
    (wS wC : (Rows n).Idx → EReal)
    (eS : ∀ x, wS x = ((Real.sin ((n : ℝ) * freq (x 1).val) : ℝ) : EReal) * vC.readCov LC (Rect.unit (s := Tab) ![0, 0] ![n, 512] inb0).toLoadRect x
      + ((Real.cos ((n : ℝ) * freq (x 1).val) : ℝ) : EReal) * vS.readCov LS (Rect.unit (s := Tab) ![0, 0] ![n, 512] inb0).toLoadRect x)
    (eC : ∀ x, wC x = ((Real.cos ((n : ℝ) * freq (x 1).val) : ℝ) : EReal) * vC.readCov LC (Rect.unit (s := Tab) ![0, 0] ![n, 512] inb0).toLoadRect x
      - ((Real.sin ((n : ℝ) * freq (x 1).val) : ℝ) : EReal) * vS.readCov LS (Rect.unit (s := Tab) ![0, 0] ![n, 512] inb0).toLoadRect x) :
    Filled sinRow (n + n) (⟨Rect.unit (s := Tab) ![n, 0] ![n, 512] inb, wS⟩ :: LS)
      ∧ Filled cosRow (n + n) (⟨Rect.unit (s := Tab) ![n, 0] ![n, 512] inb, wC⟩ :: LC) := by
  have low : ∀ x : (Rows n).Idx, (((Rect.unit (s := Tab) ![0, 0] ![n, 512] inb0).emb x) 0).val = (x 0).val
      ∧ (((Rect.unit (s := Tab) ![0, 0] ![n, 512] inb0).emb x) 1).val = (x 1).val := fun x =>
    ⟨by show 0 + 1 * (x 0).val = _; omega, by show 0 + 1 * (x 1).val = _; omega⟩
  have high : ∀ x : (Rows n).Idx, (((Rect.unit (s := Tab) ![n, 0] ![n, 512] inb).emb x) 0).val = n + (x 0).val
      ∧ (((Rect.unit (s := Tab) ![n, 0] ![n, 512] inb).emb x) 1).val = (x 1).val := fun x =>
    ⟨by show n + 1 * (x 0).val = _; omega, by show 0 + 1 * (x 1).val = _; omega⟩
  refine ⟨filled_cons hS inb wS fun x => ?_, filled_cons hC inb wC fun x => ?_⟩
  · rw [eS x, filled_read hS, filled_read hC]
    unfold sinRow cosRow
    rw [(low x).1, (low x).2, (high x).1, (high x).2, sin_turn]
    push_cast; rw [add_mul]
  · rw [eC x, filled_read hS, filled_read hC]
    unfold sinRow cosRow
    rw [(low x).1, (low x).2, (high x).1, (high x).2, cos_turn]
    push_cast; rw [add_mul]

end Cert.Proof

end
-- ==== Proof.IdealRun.lean ====
/-
The run of the idealized kernel. The first grid point fills two scratch tables, and every point writes one block of the
result out of them: what each point leaves, and what the result array holds after the run.
-/
module

public import proofs.«01_k».proof.Proof.Gen.KernelIdeal.Frame.RunB
public import Idealize.ShloMosaic.Lib.Claim
public import Idealize.ShloMosaic.Lib.Pipeline.Value

@[expose] public section

set_option maxRecDepth 16384

noncomputable section

namespace Cert.Proof.IdealRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The two cases of the body, at a point's own memrefs -/

/-- The body's run at a point that builds the tables (the condition holds there). -/
abbrev runFirst (c : Dev nD) (t : Fin cfg0.N) (h : t.val % 8 = 0) :=
  kernelRun0_A (F := F) c (grid0.coords t) (ms0_0 t) (hs0_0 t) scM0_0 (Memref.isWhole_whole _) scM0_1 (Memref.isWhole_whole _)
    ((hcond0_0 t).mpr h) ((hcond0_1 t).mpr h)

/-- The body's run at a point that finds the tables built: the sine table holds `s`, the cosine table `k`. -/
abbrev runLater (c : Dev nD) (t : Fin cfg0.N) (h : ¬t.val % 8 = 0) (s k : Vec F S1024x512 .f32) :=
  kernelRun0_B (F := F) c (grid0.coords t) (ms0_0 t) (hs0_0 t) scM0_0 (Memref.isWhole_whole _) scM0_1 (Memref.isWhole_whole _)
    (fun e => h ((hcond0_0 t).mp e)) (fun e => h ((hcond0_1 t).mp e)) s k

/-- The first point of the grid. -/
def firstPt : Fin cfg0.N := ⟨0, by rw [show cfg0.N = 8 from N_0]; omega⟩

/-- Only the first point's number is a multiple of 8. -/
theorem eq_firstPt (t : Fin cfg0.N) (h : t.val % 8 = 0) : t = firstPt :=
  Fin.ext (by have : t.val < 8 := lt_of_lt_of_eq t.isLt N_0; show t.val = 0; omega)

/-- The sine table: what the first point's stores leave in the first scratch buffer. -/
def sinTab (c : Dev nD) : Vec F S1024x512 .f32 := View.canon (runFirst (F := F) c firstPt (Nat.zero_mod _)).2.1

/-- The cosine table: what the first point's stores leave in the second scratch buffer. -/
def cosTab (c : Dev nD) : Vec F S1024x512 .f32 := View.canon (runFirst (F := F) c firstPt (Nat.zero_mod _)).2.2.1

/-- What point `t` leaves in the output's buffer: its stores, over the tables the first point left. -/
def blockAt (c : Dev nD) (t : Fin cfg0.N) : Vec F S1024x1024 .f32 :=
  if h : t.val % 8 = 0 then View.canon (runFirst (F := F) c t h).1
  else View.canon (runLater (F := F) c t h (sinTab c) (cosTab c)).1

/-- At the first point, the block is the stores of the point that builds the tables, -/
theorem blockAt_first (c : Dev nD) (t : Fin cfg0.N) (h : t.val % 8 = 0) :
    blockAt (F := F) c t = View.canon (runFirst (F := F) c t h).1 := dif_pos h

/-- and at a later one, the stores of a point that reads them. -/
theorem blockAt_later (c : Dev nD) (t : Fin cfg0.N) (h : ¬t.val % 8 = 0) :
    blockAt (F := F) c t = View.canon (runLater (F := F) c t h (sinTab c) (cosTab c)).1 := dif_neg h

/-! ## Every buffer a point stores into is covered by its stores -/

/-- The first point's three output stores cover the block. -/
theorem first_covers (c : Dev nD) (t : Fin cfg0.N) (h : t.val % 8 = 0) (y : S1024x1024.Idx) :
    ∃ p ∈ (runFirst (F := F) c t h).1, y ∈ p.1.set :=
  View.cover_of_tiledBy _ ![1, 512] (by sl_kernel_rfl) y

/-- Its seven stores into the sine table cover the table, -/
theorem first_covers_sin (c : Dev nD) (t : Fin cfg0.N) (h : t.val % 8 = 0) (y : S1024x512.Idx) :
    ∃ p ∈ (runFirst (F := F) c t h).2.1, y ∈ p.1.set :=
  View.cover_of_tiledBy _ ![16, 512] (by sl_kernel_rfl) y

/-- and its seven stores into the cosine table cover that. -/
theorem first_covers_cos (c : Dev nD) (t : Fin cfg0.N) (h : t.val % 8 = 0) (y : S1024x512.Idx) :
    ∃ p ∈ (runFirst (F := F) c t h).2.2.1, y ∈ p.1.set :=
  View.cover_of_tiledBy _ ![16, 512] (by sl_kernel_rfl) y

/-- A later point's two output stores cover the block. -/
theorem later_covers (c : Dev nD) (t : Fin cfg0.N) (h : ¬t.val % 8 = 0) (s k : Vec F S1024x512 .f32) (y : S1024x1024.Idx) :
    ∃ p ∈ (runLater (F := F) c t h s k).1, y ∈ p.1.set :=
  View.cover_of_tiledL (runLater (F := F) c t h s k).1 S1024x512.size (by sl_kernel_rfl) y

/-! ## The invariant and the body's obligation -/

/-- Both scratch buffers hold the finished tables, and the generator register is in some state. -/
def tables (c : Dev nD) : sProp 𝕄 :=
  iprop(iprop(owns (c : Thread nD τ) scM0_0 fullShare (sinTab (F := F) c) ∗ owns (c : Thread nD τ) scM0_1 fullShare (cosTab (F := F) c))
    ∗ (∃ r, prngReg c r))

/-- The invariant before point `n`: nothing is known of the scratch at the start, and afterwards it holds the tables. -/
def inv (c : Dev nD) (n : ℕ) : sProp 𝕄 := if n = 0 then Pipeline.ΦA spec0 c else tables c

variable (m : (ℓ : Loc nD τ sig) → Buf (Elt F) ℓ) (ρ : Dev nD → PrngReg)

/-- What the launch is proved with: the arrays as launched, the output's buffer at `blockAt` after each point, the invariant
    `inv`, and nothing owed. -/
def data (_ : Fin 1) (c : Dev nD) : Dat τ (Elt F) Unit ℕ (UR sig nD τ) ℕ cfg0 c where
  A w := V m c (Pipeline.arrRef spec0 w)
  after w t := match w with
    | ⟨0, _⟩ => blockAt c t
  Φ t := inv c t.val
  q _ := fullShare
  owed _ := 0

/-- The data's arrays are the arrays as launched, -/
theorem data_A (c : Dev nD) (w : Fin cfg0.W) : (data m 0 c).A w = V m c (Pipeline.arrRef spec0 w) := by
  dsimp only [data]

/-- its output buffer after a point is the point's block, -/
theorem data_after (c : Dev nD) (t : Fin cfg0.N) : (data m 0 c).after 0 t = blockAt c t := by dsimp only [data]

/-- and its invariant is `inv`. -/
theorem data_inv (c : Dev nD) (t : Fin (cfg0.N + 1)) : (data m 0 c).Φ t = inv c t.val := by dsimp only [data]

/-- The body's precondition at point `t`, its one window written out, -/
def before (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d)))

/-- and its postcondition. -/
def afterwards (c : Dev nD) (t : Fin cfg0.N) : sProp 𝕄 :=
  iprop((data m 0 c).Φ t.succ ∗ (data m 0 c).owesAt () t.succ
    ∗ owns (c : Thread nD τ) (ms0_0 t) fullShare ((data m 0 c).after 0 t))

set_option maxHeartbeats 3200000 in
/-- The body at any point. The first point takes the scratch at anything and leaves the tables in it; a later point finds the
    tables there and leaves them. Either way the output's buffer ends at the canon of the point's stores, which cover it. -/
theorem body_sound (c : Dev nD) (t : Fin cfg0.N) :
    before m c t ⊢ wp frame (wpE (defs₀ (F := F)) Variants.none c none) Set.univ (bodyAt0 t) (fun _ => afterwards m c t) := by
  unfold before afterwards bodyAt0
  rw [show (data m 0 c).owesAt () t.succ = (data m 0 c).owesAt () t.castSucc from rfl, data_after, data_inv, data_inv,
    show inv (F := F) c t.succ.val = tables c from if_neg (Nat.succ_ne_zero _)]
  unfold tables
  by_cases h : t.val % 8 = 0
  · rw [blockAt_first c t h]
    obtain rfl := eq_firstPt t h
    rw [show inv (F := F) c (firstPt.castSucc : Fin (cfg0.N + 1)).val = Pipeline.ΦA spec0 c from if_pos rfl, PhiA0_eq]
    iintro ⟨⟨⟨HS, HC⟩, Hg⟩, Ho, ⟨%d, H⟩⟩
    iapply ((runFirst c firstPt h).2.2.2 Set.univ _)
    isplitl [H]; · iexists _; iexact H
    isplitl [HS]; · iexact HS
    isplitl [HC]; · iexact HC
    iintro ⟨⟨%e, H⟩, ⟨%es, HS⟩, ⟨%ec, HC⟩⟩
    isplitl [HS HC Hg]
    · isplitl [HS HC]
      · isplitl [HS]
        · unfold owns; iexists _; isplitr
          swap; · iexact HS
          ipureintro; exact View.read_writes_eq_canon _ _ _ (first_covers_sin c firstPt h)
        unfold owns; iexists _; isplitr
        swap; · iexact HC
        ipureintro; exact View.read_writes_eq_canon _ _ _ (first_covers_cos c firstPt h)
      iexact Hg
    isplitl [Ho]; · iexact Ho
    unfold owns; iexists _; isplitr
    swap; · iexact H
    ipureintro; exact View.read_writes_eq_canon _ _ _ (first_covers c firstPt h)
  · rw [blockAt_later c t h,
      show inv (F := F) c (t.castSucc : Fin (cfg0.N + 1)).val = tables c from
        if_neg fun e => h (by rw [show t.val = 0 from e])]
    unfold tables
    iintro ⟨⟨⟨HS, HC⟩, Hg⟩, Ho, ⟨%d, H⟩⟩
    iapply ((runLater c t h (sinTab c) (cosTab c)).2.2.2 Set.univ _)
    isplitl [H]; · iexists _; iexact H
    isplitl [HS]; · iexact HS
    isplitl [HC]; · iexact HC
    iintro ⟨⟨%e, H⟩, HS, HC⟩
    isplitl [HS HC Hg]
    · isplitl [HS HC]
      · isplitl [HS]
        · iexact HS
        iexact HC
      iexact Hg
    isplitl [Ho]; · iexact Ho
    unfold owns; iexists _; isplitr
    swap; · iexact H
    ipureintro; exact View.read_writes_eq_canon _ _ _ (later_covers c t h _ _)

/-- The pipeline's obligation: the body at every point. -/
theorem obligation (c : Dev nD) : BodyObligation (data (F := F) m 0 c) (defs₀ (F := F)) Variants.none () Set.univ := fun t => by
  rw [bigSep_W0, bigSep_W0,
    show defs₀ (F := F) .tc cfg0.body (cfg0.bodyArgs t (cfg0.slots t)) = bodyAt0 t by unfold defs₀; rw [Defs.onTc_tc]]
  exact triple_restated (body_sound m c t) rfl .rfl fun _ => .rfl

/-- The launch gives the invariant before the first point, -/
theorem inv_start (c : Dev nD) : Pipeline.ΦA spec0 c ⊢ (data m 0 c).Φ 0 := by
  rw [data_inv, show inv (F := F) c (0 : Fin (cfg0.N + 1)).val = Pipeline.ΦA spec0 c from if_pos rfl]

/-- and takes it back after the last, the tables forgotten. -/
theorem inv_end (c : Dev nD) : (data m 0 c).Φ (Fin.last cfg0.N) ⊢ Pipeline.ΦA spec0 c := by
  rw [data_inv, show inv (F := F) c (Fin.last cfg0.N).val = tables c from
    if_neg (by rw [Fin.val_last, show cfg0.N = 8 from N_0]; omega), PhiA0_eq]
  unfold tables
  iintro ⟨⟨HS, HC⟩, Hg⟩
  isplitl [HS HC]
  · isplitl [HS]
    · iexists _; iexact HS
    iexists _; iexact HC
  iexact Hg

/-! ## The run -/

set_option backward.isDefEq.respectTransparency.types false in
/-- Every weakly fair execution ends with each pipelined array at what the data say, every other array as launched, and every
    semaphore counter at zero. -/
theorem run_all : θ_run defs (onTc (τ := τ) (main (F := F))) (s₀ m ρ)
    (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hin := inv_start m) (hout := inv_end m)

/-- The frame: the argument arrays end as they were, and every semaphore counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (data m) (data_A m) ((θ_run defs _ _).mono (fun _ h => h.1) (run_all m ρ)))
    ((θ_run defs _ _).mono (fun _ h => h.2) (run_all m ρ))

/-- The run with its result named: the result array ends at what the points flushed into it. -/
theorem run_result : θ_run defs (onTc (τ := τ) (main (F := F))) ⟨m, fun _ => 0, ρ⟩ (fun r => ∀ c : Dev nD,
      r.2.mem ((c.tc : Thread nD τ).loc main_v0) = (data m 0 c).arrAt 0 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ?_)
    (θ_run_and ((θ_run defs _ _).mono (fun _ h => h.1) (run_all m ρ)) ((θ_run defs _ _).mono (fun _ h => h.1) (run_frame m ρ)))
  exact ⟨(h.1 c).1 0, h.2 c⟩

end Cert.Proof.IdealRun

end
-- ==== Proof.Tables.lean ====
/-
The two scratch tables after the first grid point: row `r`, column `j` holds the sine and the cosine of `r` frequencies.
-/
module

public import proofs.«01_k».proof.Proof.Doubling
public import proofs.«01_k».proof.Proof.IdealRun

@[expose] public section

set_option maxRecDepth 16384

noncomputable section

namespace Cert.Proof

open Idealize.ShloMosaic Idealize.ShloMosaic.TcCoe Idealize.ShloMosaic.ValueIdx Cert.Proof.Consts
open Cert.KernelIdeal Cert.KernelIdeal.Gen Cert.Proof.IdealRun

/-! ## The values the body's stores are made of -/

/-- A number below 8192, as a word, is read back signed as itself. -/
theorem toInt_word {n : ℕ} (h : n < 8192) : (BitVec.ofNat 32 n).toInt = (n : ℤ) := by
  rw [BitVec.toInt_eq_toNat_of_lt (by rw [BitVec.toNat_ofNat]; omega), BitVec.toNat_ofNat]
  omega

/-- The exponential of a coordinate's word times the slope is the coordinate's frequency. -/
theorem exp_slope {n : ℕ} (h : n < 8192) :
    Ideal.exp ((((BitVec.ofNat 32 n).toInt : ℝ) : EReal) * (slope : EReal)) = ((freq n : ℝ) : EReal) := by
  rw [toInt_word h, ← EReal.coe_mul, Ideal.exp_coe]
  unfold freq
  push_cast; rfl

/-- The row of frequencies. -/
theorem freq_row (y : S1x512.Idx) : k0_pay1 (F := Ideal) y = ((freq (y 1).val : ℝ) : EReal) := by
  show Ideal.exp ((((iota .tc S1x512 32 [1] iota_S1x512_d1_w32 y).toInt : ℝ) : EReal)
    * (Named.named (F := Ideal) κ "slope" 0xBC93A762#32 : Ideal .f32)) = _
  rw [named_slope, iota_single_apply]
  exact exp_slope (by have : (y 1).val < 512 := (y 1).isLt; omega)

/-- The first sixteen rows' angles: the row's number of frequencies. -/
theorem first_angles (x : S16x512.Idx) :
    k0_pay9 (F := Ideal) x = ((((x 0).val : ℝ) * freq (x 1).val : ℝ) : EReal) := by
  show (((iota .tc S16x512 32 [0] iota_S16x512_d0_w32 x).toInt : ℝ) : EReal)
    * Ideal.exp ((((iota .tc S16x512 32 [1] iota_S16x512_d1_w32 x).toInt : ℝ) : EReal)
      * (Named.named (F := Ideal) κ "slope" 0xBC93A762#32 : Ideal .f32)) = _
  have h0 : (x 0).val < 16 := (x 0).isLt
  have h1 : (x 1).val < 512 := (x 1).isLt
  rw [named_slope, iota_single_apply, iota_single_apply, exp_slope (by omega), toInt_word (by omega), EReal.coe_mul]
  push_cast; rfl

/-- A row spread over `n` rows reads, at any of them, the row. -/
theorem spread_apply {n : ℕ} (v : S1x512.Idx → EReal) (h : S1x512.Broadcasts (Rows n)) (x : (Rows n).Idx) :
    broadcastTo (Rows n) v h x = v (ix2 (0 : Fin 1) (x 1 : Fin 512)) := by
  refine broadcastTo_apply v h x _ (Fin.forall_fin_two.mpr ⟨?_, ?_⟩)
  · rfl
  · rfl

/-- `k` times the row of frequencies. -/
theorem turn_row {k : ℝ} {w : Ideal .f32} (hw : w = (k : EReal)) (y : S1x512.Idx) :
    mulf (broadcast S1x512 w) (k0_pay1 (F := Ideal)) y = ((k * freq (y 1).val : ℝ) : EReal) := by
  show w * k0_pay1 (F := Ideal) y = _
  rw [freq_row, hw, EReal.coe_mul]

/-- The sine half of a doubling step: the stored rows are the loaded ones turned by `k` frequencies. -/
theorem turned_sin {n : ℕ} {k : ℝ} {w : Ideal .f32} (hw : w = (k : EReal)) (hb : S1x512.Broadcasts (Rows n))
    (hs : (Rows n).ShapeCasts (Rows n)) (S C : (Rows n).Idx → EReal) (x : (Rows n).Idx) :
    shapeCast (Rows n) (addf (F := Ideal) (φ := .f32)
      (mulf (broadcastTo (Rows n) (sin (mulf (broadcast S1x512 w) (k0_pay1 (F := Ideal)))) hb) C)
      (mulf (broadcastTo (Rows n) (cos (mulf (broadcast S1x512 w) (k0_pay1 (F := Ideal)))) hb) S)) hs x
    = ((Real.sin (k * freq (x 1).val) : ℝ) : EReal) * C x + ((Real.cos (k * freq (x 1).val) : ℝ) : EReal) * S x := by
  rw [shapeCast_self, addf_apply, mulf_apply, mulf_apply, spread_apply, spread_apply]
  show Ideal.sin (mulf (broadcast S1x512 w) (k0_pay1 (F := Ideal)) _) * _ + Ideal.cos (mulf (broadcast S1x512 w) (k0_pay1 (F := Ideal)) _) * _ = _
  rw [turn_row hw, Ideal.sin_coe, Ideal.cos_coe]

/-- The cosine half of a doubling step. -/
theorem turned_cos {n : ℕ} {k : ℝ} {w : Ideal .f32} (hw : w = (k : EReal)) (hb : S1x512.Broadcasts (Rows n))
    (hs : (Rows n).ShapeCasts (Rows n)) (S C : (Rows n).Idx → EReal) (x : (Rows n).Idx) :
    shapeCast (Rows n) (subf (F := Ideal) (φ := .f32)
      (mulf (broadcastTo (Rows n) (cos (mulf (broadcast S1x512 w) (k0_pay1 (F := Ideal)))) hb) C)
      (mulf (broadcastTo (Rows n) (sin (mulf (broadcast S1x512 w) (k0_pay1 (F := Ideal)))) hb) S)) hs x
    = ((Real.cos (k * freq (x 1).val) : ℝ) : EReal) * C x - ((Real.sin (k * freq (x 1).val) : ℝ) : EReal) * S x := by
  rw [shapeCast_self, subf_apply, mulf_apply, mulf_apply, spread_apply, spread_apply]
  show Ideal.cos (mulf (broadcast S1x512 w) (k0_pay1 (F := Ideal)) _) * _ - Ideal.sin (mulf (broadcast S1x512 w) (k0_pay1 (F := Ideal)) _) * _ = _
  rw [turn_row hw, Ideal.sin_coe, Ideal.cos_coe]

/-! ## The stores, one after another -/

/-- The first sixteen rows, stored from their own angles. -/
theorem filled_16 : Filled sinRow 16 (kernelRun0_A.sl.HS0_1 (F := Ideal)) ∧ Filled cosRow 16 (kernelRun0_A.sl.HS1_1 (F := Ideal)) := by
  refine ⟨filled_cons (G := sinRow) (n := 0) (k := 16) (filled_zero _) inb_S1024x512_S16x512_0_0 (k0_pay10 (F := Ideal)) fun x => ?_,
    filled_cons (G := cosRow) (n := 0) (k := 16) (filled_zero _) inb_S1024x512_S16x512_0_0 (k0_pay11 (F := Ideal)) fun x => ?_⟩
  · unfold k0_pay10 sinRow
    rw [shapeCast_self]
    show Ideal.sin (k0_pay9 (F := Ideal) x) = _
    rw [first_angles, Ideal.sin_coe, show ((Rect.unit (s := Tab) ![0, 0] ![16, 512] inb_S1024x512_S16x512_0_0).emb x 0).val = (x 0).val by
      show 0 + 1 * (x 0).val = _; omega, show ((Rect.unit (s := Tab) ![0, 0] ![16, 512] inb_S1024x512_S16x512_0_0).emb x 1).val = (x 1).val by
      show 0 + 1 * (x 1).val = _; omega]
  · unfold k0_pay11 cosRow
    rw [shapeCast_self]
    show Ideal.cos (k0_pay9 (F := Ideal) x) = _
    rw [first_angles, Ideal.cos_coe, show ((Rect.unit (s := Tab) ![0, 0] ![16, 512] inb_S1024x512_S16x512_0_0).emb x 0).val = (x 0).val by
      show 0 + 1 * (x 0).val = _; omega, show ((Rect.unit (s := Tab) ![0, 0] ![16, 512] inb_S1024x512_S16x512_0_0).emb x 1).val = (x 1).val by
      show 0 + 1 * (x 1).val = _; omega]

variable (c : Dev nD) (s k : Memref sig .tc .vmem S1024x512 .f32)

/-- Rows 16 to 32. -/
theorem filled_32 : Filled sinRow 32 (kernelRun0_A.sl.HS0_2 (F := Ideal) c s k) ∧ Filled cosRow 32 (kernelRun0_A.sl.HS1_2 (F := Ideal) c s k) :=
  filled_double (n := 16) filled_16.1 filled_16.2 s.view k.view inb_S1024x512_S16x512_0_0 inb_S1024x512_S16x512_16_0 _ _
    (turned_sin word_16 _ _ _ _) (turned_cos word_16 _ _ _ _)

/-- Rows 32 to 64. -/
theorem filled_64 : Filled sinRow 64 (kernelRun0_A.sl.HS0_3 (F := Ideal) c s k) ∧ Filled cosRow 64 (kernelRun0_A.sl.HS1_3 (F := Ideal) c s k) :=
  filled_double (n := 32) (filled_32 c s k).1 (filled_32 c s k).2 s.view k.view inb_S1024x512_S32x512_0_0 inb_S1024x512_S32x512_32_0 _ _
    (turned_sin word_32 _ _ _ _) (turned_cos word_32 _ _ _ _)

/-- Rows 64 to 128. -/
theorem filled_128 : Filled sinRow 128 (kernelRun0_A.sl.HS0_4 (F := Ideal) c s k) ∧ Filled cosRow 128 (kernelRun0_A.sl.HS1_4 (F := Ideal) c s k) :=
  filled_double (n := 64) (filled_64 c s k).1 (filled_64 c s k).2 s.view k.view inb_S1024x512_S64x512_0_0 inb_S1024x512_S64x512_64_0 _ _
    (turned_sin word_64 _ _ _ _) (turned_cos word_64 _ _ _ _)

/-- Rows 128 to 256. -/
theorem filled_256 : Filled sinRow 256 (kernelRun0_A.sl.HS0_5 (F := Ideal) c s k) ∧ Filled cosRow 256 (kernelRun0_A.sl.HS1_5 (F := Ideal) c s k) :=
  filled_double (n := 128) (filled_128 c s k).1 (filled_128 c s k).2 s.view k.view inb_S1024x512_S128x512_0_0 inb_S1024x512_S128x512_128_0 _ _
    (turned_sin word_128 _ _ _ _) (turned_cos word_128 _ _ _ _)

/-- Rows 256 to 512. -/
theorem filled_512 : Filled sinRow 512 (kernelRun0_A.sl.HS0_6 (F := Ideal) c s k) ∧ Filled cosRow 512 (kernelRun0_A.sl.HS1_6 (F := Ideal) c s k) :=
  filled_double (n := 256) (filled_256 c s k).1 (filled_256 c s k).2 s.view k.view inb_S1024x512_S256x512_0_0 inb_S1024x512_S256x512_256_0 _ _
    (turned_sin word_256 _ _ _ _) (turned_cos word_256 _ _ _ _)

/-- Rows 512 to 1024: the tables are complete. -/
theorem filled_1024 : Filled sinRow 1024 (kernelRun0_A.sl.HS0_7 (F := Ideal) c s k) ∧ Filled cosRow 1024 (kernelRun0_A.sl.HS1_7 (F := Ideal) c s k) :=
  filled_double (n := 512) (filled_512 c s k).1 (filled_512 c s k).2 s.view k.view inb_S1024x512_S512x512_0_0 inb_S1024x512_S512x512_512_0 _ _
    (turned_sin word_512 _ _ _ _) (turned_cos word_512 _ _ _ _)

/-! ## The finished tables -/

/-- The sine table. -/
theorem sinTab_eq : sinTab (F := Ideal) c = sinRow :=
  funext fun y => (filled_1024 c scM0_0 scM0_1).1 y (y 0).isLt

/-- The cosine table. -/
theorem cosTab_eq : cosTab (F := Ideal) c = cosRow :=
  funext fun y => (filled_1024 c scM0_0 scM0_1).2 y (y 0).isLt

end Cert.Proof

end
-- ==== Proof.Blocks.lean ====
/-
What one grid point writes: block `t` of the result holds rows `1024 t` to `1024 t + 1023` of the embedding.
-/
module

public import proofs.«01_k».proof.Proof.Tables

@[expose] public section

set_option maxRecDepth 16384

noncomputable section

namespace Cert.Proof

open Idealize.ShloMosaic Idealize.ShloMosaic.TcCoe Idealize.ShloMosaic.ValueIdx Cert.Proof.Consts
open Cert.KernelIdeal Cert.KernelIdeal.Gen Cert.Proof.IdealRun

/-- The block's starting position, as the body computes it in words. -/
theorem base_word : ∀ n : Fin 8, (Scalar.addi (Scalar.muli (BitVec.ofNat 32 n.val) 1024#32) 4294963200#32 : BitVec 32).toInt
    = (n.val : ℤ) * 1024 - 4096 := by
  decide +kernel

/-- Point `t` has the one coordinate `t`. -/
theorem coord_eq (t : Fin cfg0.N) : (grid0.coords t 0).val = t.val := by
  have ht : t.val < 8 := Nat.lt_of_lt_of_eq t.isLt N_0
  have e : (grid0.coords t 0).val = t.val / 1 % 8 := Pipeline.Grid.coords_val t 0 (by decide) rfl
  omega

/-- The block's starting position times the row of frequencies. -/
theorem base_row (t : Fin cfg0.N) (y : S1x512.Idx) :
    k0_pay3 (F := Ideal) (grid0.coords t) y = ((pos (1024 * t.val) * freq (y 1).val : ℝ) : EReal) := by
  have ht : t.val < 8 := Nat.lt_of_lt_of_eq t.isLt N_0
  show (((Scalar.addi (Scalar.muli (BitVec.ofNat 32 (grid0.coords t 0).val) 1024#32) 4294963200#32 : BitVec 32).toInt : ℝ) : EReal)
    * k0_pay1 (F := Ideal) y = _
  rw [coord_eq, base_word ⟨t.val, ht⟩, freq_row, ← EReal.coe_mul]
  refine congrArg (fun r : ℝ => ((r * freq (y 1).val : ℝ) : EReal)) ?_
  unfold pos
  push_cast
  ring

/-- The left half of the block: the table's angles turned by the block's starting position, their sines. -/
theorem left_apply (t : Fin cfg0.N) (x : S1024x512.Idx) :
    k0_pay6 (F := Ideal) (grid0.coords t) sinRow cosRow x
      = ((Real.sin (pos (1024 * t.val + (x 0).val) * freq (x 1).val) : ℝ) : EReal) := by
  unfold k0_pay6
  dsimp only
  rw [addf_apply, mulf_apply, mulf_apply, spread_apply (n := 1024), spread_apply (n := 1024)]
  show Ideal.sin (k0_pay3 (F := Ideal) (grid0.coords t) _) * cosRow x + Ideal.cos (k0_pay3 (F := Ideal) (grid0.coords t) _) * sinRow x = _
  rw [base_row, Ideal.sin_coe, Ideal.cos_coe]
  unfold sinRow cosRow
  refine (sin_turn _ _).trans ?_
  unfold pos
  rw [← add_mul]
  push_cast
  rw [show (1024 * (t.val : ℝ) - 4096 + ((x 0).val : ℝ)) = 1024 * (t.val : ℝ) + ((x 0).val : ℝ) - 4096 by ring]

/-- The right half: their cosines. -/
theorem right_apply (t : Fin cfg0.N) (x : S1024x512.Idx) :
    k0_pay7 (F := Ideal) (grid0.coords t) sinRow cosRow x
      = ((Real.cos (pos (1024 * t.val + (x 0).val) * freq (x 1).val) : ℝ) : EReal) := by
  unfold k0_pay7
  dsimp only
  rw [subf_apply, mulf_apply, mulf_apply, spread_apply (n := 1024), spread_apply (n := 1024)]
  show Ideal.cos (k0_pay3 (F := Ideal) (grid0.coords t) _) * cosRow x - Ideal.sin (k0_pay3 (F := Ideal) (grid0.coords t) _) * sinRow x = _
  rw [base_row, Ideal.sin_coe, Ideal.cos_coe]
  unfold sinRow cosRow
  refine (cos_turn _ _).trans ?_
  unfold pos
  rw [← add_mul]
  push_cast
  rw [show (1024 * (t.val : ℝ) - 4096 + ((x 0).val : ℝ)) = 1024 * (t.val : ℝ) + ((x 0).val : ℝ) - 4096 by ring]

/-- The two stores every point makes, the right half last. -/
abbrev twoHalves (t : Fin cfg0.N) (S C : S1024x512.Idx → Elt Ideal .f32) : List (View.Piece (Elt Ideal) S1024x1024 .f32) :=
  [⟨Rect.unit (s := S1024x1024) ![0, 512] ![1024, 512] inb_S1024x1024_S1024x512_0_512, k0_pay7 (F := Ideal) (grid0.coords t) S C⟩,
    ⟨Rect.unit (s := S1024x1024) ![0, 0] ![1024, 512] inb_S1024x1024_S1024x512_0_0, k0_pay6 (F := Ideal) (grid0.coords t) S C⟩]

/-- Where the right half's element `x` stands in the block. -/
theorem right_place (x : S1024x512.Idx) :
    ((Rect.unit (s := S1024x1024) ![0, 512] ![1024, 512] inb_S1024x1024_S1024x512_0_512).emb x 0).val = (x 0).val
    ∧ ((Rect.unit (s := S1024x1024) ![0, 512] ![1024, 512] inb_S1024x1024_S1024x512_0_512).emb x 1).val = 512 + (x 1).val :=
  ⟨by show 0 + 1 * (x 0).val = _; omega, by show 512 + 1 * (x 1).val = _; omega⟩

/-- Where the left half's element `x` stands in the block. -/
theorem left_place (x : S1024x512.Idx) :
    ((Rect.unit (s := S1024x1024) ![0, 0] ![1024, 512] inb_S1024x1024_S1024x512_0_0).emb x 0).val = (x 0).val
    ∧ ((Rect.unit (s := S1024x1024) ![0, 0] ![1024, 512] inb_S1024x1024_S1024x512_0_0).emb x 1).val = (x 1).val :=
  ⟨by show 0 + 1 * (x 0).val = _; omega, by show 0 + 1 * (x 1).val = _; omega⟩

/-- The two stores leave the block's rows of sines and cosines. -/
theorem twoHalves_apply (t : Fin cfg0.N) (y : S1024x1024.Idx) :
    View.canon (twoHalves t sinRow cosRow) y = halves (1024 * t.val + (y 0).val) (y 1).val := by
  refine View.canon_apply_of_pieces (fun y : S1024x1024.Idx => halves (1024 * t.val + (y 0).val) (y 1).val) _ ?_ y
    (View.cover_of_tiledL (twoHalves t sinRow cosRow) S1024x512.size (by sl_kernel_rfl) y)
  intro p hp
  rcases List.mem_cons.mp hp with rfl | hp
  · intro x
    have hx : (x 1).val < 512 := (x 1).isLt
    show k0_pay7 (F := Ideal) (grid0.coords t) sinRow cosRow x = halves _ _
    rw [right_apply, (right_place x).1, (right_place x).2]
    unfold halves
    rw [if_neg (by omega), show 512 + (x 1).val - 512 = (x 1).val by omega]
  · obtain rfl := List.mem_singleton.mp hp
    intro x
    have hx : (x 1).val < 512 := (x 1).isLt
    show k0_pay6 (F := Ideal) (grid0.coords t) sinRow cosRow x = halves _ _
    rw [left_apply, (left_place x).1, (left_place x).2]
    unfold halves
    rw [if_pos hx]

/-- A load of a whole table that a later point finds in its scratch reads the table. -/
theorem whole_read (M : Memref sig .tc .vmem S1024x512 .f32) (h : M.IsWhole) (X : Vec Ideal S1024x512 .f32) :
    M.view.readAt (Elt Ideal) (Rect.unit (s := S1024x512) ![0, 0] ![1024, 512] inb_S1024x512_S1024x512_0_0).toLoadRect (h.unread X) = X := by
  rw [View.readAt_eq_ld, h.read_unread]
  exact View.ld_unit_zero (S := S1024x512) (by funext a; fin_cases a <;> rfl) inb_S1024x512_S1024x512_0_0 X

/-- What a later point's stores are: the two halves over the tables it finds. -/
theorem later_stores (c : Dev nD) (t : Fin cfg0.N) (h : ¬t.val % 8 = 0) (S C : Vec Ideal S1024x512 .f32) :
    (runLater (F := Ideal) c t h S C).1 = twoHalves t S C := by
  have e : (runLater (F := Ideal) c t h S C).1 = twoHalves t
      (scM0_0.view.readAt (Elt Ideal) (Rect.unit (s := S1024x512) ![0, 0] ![1024, 512] inb_S1024x512_S1024x512_0_0).toLoadRect
        ((Memref.isWhole_whole _ : scM0_0.IsWhole).unread S))
      (scM0_1.view.readAt (Elt Ideal) (Rect.unit (s := S1024x512) ![0, 0] ![1024, 512] inb_S1024x512_S1024x512_0_0).toLoadRect
        ((Memref.isWhole_whole _ : scM0_1.IsWhole).unread C)) := rfl
  rw [e, whole_read, whole_read]

/-- A load of a whole table right after the first point filled it reads the finished table. -/
theorem filled_whole {G : Tab.Idx → EReal} {L : Stores} (h : Filled G 1024 L) (v : View sig .tc .vmem S1024x512 .f32) :
    v.readCov L (Rect.unit (s := S1024x512) ![0, 0] ![1024, 512] inb_S1024x512_S1024x512_0_0).toLoadRect = G := by
  funext x
  refine (filled_read h v inb_S1024x512_S1024x512_0_0 x).trans (congrArg G ?_)
  funext a
  refine Fin.ext ?_
  fin_cases a
  · show 0 + 1 * (x 0).val = (x 0).val; omega
  · show 0 + 1 * (x 1).val = (x 1).val; omega

/-- What the first point's stores are: the two halves over the finished tables, and then the zeros of row 0. -/
theorem first_stores (c : Dev nD) (t : Fin cfg0.N) (h : t.val % 8 = 0) :
    (runFirst (F := Ideal) c t h).1
      = ⟨Rect.unit (s := S1024x1024) ![0, 0] ![1, 1024] inb_S1024x1024_S1x1024_0_0, k0_pay8 (F := Ideal)⟩ :: twoHalves t sinRow cosRow := by
  have e : (runFirst (F := Ideal) c t h).1
      = ⟨Rect.unit (s := S1024x1024) ![0, 0] ![1, 1024] inb_S1024x1024_S1x1024_0_0, k0_pay8 (F := Ideal)⟩ :: twoHalves t
        (scM0_0.view.readCov (kernelRun0_A.sl.HS0_7 (F := Ideal) c scM0_0 scM0_1)
          (Rect.unit (s := S1024x512) ![0, 0] ![1024, 512] inb_S1024x512_S1024x512_0_0).toLoadRect)
        (scM0_1.view.readCov (kernelRun0_A.sl.HS1_7 (F := Ideal) c scM0_0 scM0_1)
          (Rect.unit (s := S1024x512) ![0, 0] ![1024, 512] inb_S1024x512_S1024x512_0_0).toLoadRect) := rfl
  rw [e, filled_whole (filled_1024 c scM0_0 scM0_1).1, filled_whole (filled_1024 c scM0_0 scM0_1).2]

/-- The stored row of zeros. -/
theorem zeros_apply (x : S1x1024.Idx) : k0_pay8 (F := Ideal) x = 0 := word_0

/-- Block `t`: rows `1024 t` on of the embedding. -/
theorem blockAt_apply (c : Dev nD) (t : Fin cfg0.N) (y : S1024x1024.Idx) :
    blockAt (F := Ideal) c t y = embedding (1024 * t.val + (y 0).val) (y 1).val := by
  have ht : t.val < 8 := Nat.lt_of_lt_of_eq t.isLt N_0
  unfold embedding
  by_cases h : t.val % 8 = 0
  · rw [blockAt_first c t h, first_stores]
    by_cases h0 : (y 0).val = 0
    · have hm : y ∈ (Rect.unit (s := S1024x1024) ![0, 0] ![1, 1024] inb_S1024x1024_S1x1024_0_0).set := by
        rw [Rect.mem_set_unit, Fin.forall_fin_two]
        have h1 : (y 1).val < 1024 := (y 1).isLt
        exact ⟨⟨Nat.zero_le _, by show (y 0).val < 0 + 1; omega⟩, ⟨Nat.zero_le _, by show (y 1).val < 0 + 1024; omega⟩⟩
      obtain ⟨x, hx⟩ := (Rect.unit (s := S1024x1024) ![0, 0] ![1, 1024] inb_S1024x1024_S1x1024_0_0).exists_idx_of_mem hm
      have hx' : (Rect.unit (s := S1024x1024) ![0, 0] ![1, 1024] inb_S1024x1024_S1x1024_0_0).emb x = y := hx
      rw [if_pos (by omega), ← hx', View.canon_cons_emb]
      exact zeros_apply x
    · rw [if_neg (by omega), View.canon_cons_of_not_mem _ _ (fun hm => ?_), twoHalves_apply]
      rw [Rect.mem_set_unit] at hm
      have := (hm 0).2
      have : (y 0).val < 0 + 1 := this
      omega
  · rw [blockAt_later c t h, later_stores, sinTab_eq, cosTab_eq, if_neg (by omega)]
    exact twoHalves_apply t y

end Cert.Proof

end
-- ==== Proof.Result.lean ====
/-
The kernel's result after the run: the whole embedding.
-/
module

public import proofs.«01_k».proof.Proof.Blocks
public import Idealize.ShloMosaic.Lib.Pipeline.ValueKit.Geometry

@[expose] public section

set_option maxRecDepth 16384

noncomputable section

namespace Cert.Proof

open Idealize.ShloMosaic Idealize.ShloMosaic.TcCoe Idealize.SL.Sem
open Cert.KernelIdeal Cert.KernelIdeal.Gen Cert.Proof.IdealRun

/-- The embedding as an array of 8192 rows and 1024 columns. -/
def table (i : (⟨2, ![8192, 1024]⟩ : Shape).Idx) : EReal := embedding (i 0).val (i 1).val

/-- Block `t` of the result is block `t` of rows: its row `r` is row `1024 t + r`, its columns are the array's. -/
theorem block_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The result array after the run is the embedding. -/
theorem result_eq (m : (ℓ : Loc nD τ sig) → Buf (Elt Ideal) ℓ) (c : Dev nD) :
    (data (F := Ideal) m 0 c).arrAt 0 cfg0.N = table := by
  refine (data (F := Ideal) m 0 c).arrAt_eq_of_covers 0 table (by decide +kernel) fun t _ y => ?_
  rw [data_after]
  have e := blockAt_apply c t y
  refine e.trans ?_
  unfold table
  have e0 : (((cfg0.win 0).blk t).view.emb y 0).val = 1024 * t.val + (y 0).val := by
    show win0_0.index t (0 : Fin 2) * 1024 + 1 * (y 0).val = _
    rw [(block_index t).1]; omega
  have e1 : (((cfg0.win 0).blk t).view.emb y 1).val = (y 1).val := by
    show win0_0.index t (1 : Fin 2) * 1024 + 1 * (y 1).val = _
    rw [(block_index t).2]; omega
  exact (congrArg₂ embedding e0 e1).symm

/-- The kernel's run ends with the embedding in its result and the arguments as they were. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = table
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m c), (h c).2⟩) (run_result m ρ)

end Cert.Proof

end
-- ==== Proof.RefRows.lean ====
/-
The reference's table of sines and cosines, and that table with its first row set to zero, read at an entry.
-/
module

public import proofs.«01_k».proof.Proof.Gen.ReferenceIdeal.Read
public import proofs.«01_k».proof.Proof.Tables
public import Idealize.ShloMosaic.Lib.Routing.OpsOne

@[expose] public section

set_option maxRecDepth 16384

noncomputable section

namespace Cert.Proof.Ref

open Idealize.ShloMosaic Idealize.ShloMosaic.TcCoe Idealize.ShloMosaic.ValueIdx Idealize.ShloMosaic.Routing
open Cert.Proof.Consts Cert.ReferenceIdeal Cert.ReferenceIdeal.Gen Cert.ReferenceIdeal.Read

/-- The exponent's slope, as the reference computes it: minus the logarithm of 10000, over 511. -/
theorem slope_eq (i : S_.Idx) : val_main_v3 (F := Ideal) i = (slope : EReal) := by
  show -(Ideal.div (Ideal.log (Ideal.ofBits .f32 0x461C4000#32)) (Ideal.ofBits .f32 0x43FF8000#32)) = _
  rw [word_10000, word_511, Ideal.log_coe, if_neg (by norm_num), Ideal.div_coe (by norm_num), ← EReal.coe_mul, ← EReal.coe_neg]
  unfold Consts.slope
  rw [one_div]

/-- The reference's frequency of column `j`. -/
theorem freq_eq (i : S512.Idx) : val_main_v6 (F := Ideal) i = ((freq (i 0).val : ℝ) : EReal) := by
  rw [val_main_v6_apply, val_main_v5_apply, val_main_v4_apply, slope_eq]
  exact exp_slope (by have : (i 0).val < 512 := (i 0).isLt; omega)

/-- The reference's position of row `r`. -/
theorem pos_eq (i : S8192.Idx) : val_main_v9 (F := Ideal) i = ((pos (i 0).val : ℝ) : EReal) := by
  rw [val_main_v9_apply, val_main_v8_apply, val_main_cst_1_apply]
  show Ideal.ofBits .f32 0xC5800000#32 + ((((BitVec.ofNat 32 (i 0).val).toInt : ℝ)) : EReal) = _
  have h : (i 0).val < 8192 := (i 0).isLt
  rw [word_neg_4096, toInt_word h, ← EReal.coe_add]
  refine congrArg (fun r : ℝ => (r : EReal)) ?_
  unfold pos
  push_cast; ring

/-- The reference's angle: the row's position times the column's frequency. -/
theorem angle_eq (i : S8192x512.Idx) :
    val_main_v14 (F := Ideal) i = ((pos (i 0).val * freq (i 1).val : ℝ) : EReal) := by
  rw [val_main_v14_apply, val_main_v12_apply, val_main_v10_apply, val_main_v13_apply, val_main_v11_apply, pos_eq, freq_eq]
  exact (EReal.coe_mul _ _).symm

/-- The sines and the cosines side by side. -/
theorem halves_eq (r : Fin 8192) (k : Fin 1024) : val_main_v17 (F := Ideal) (ix2 r k) = halves r.val k.val := by
  unfold val_main_v17 halves
  split
  · next h =>
    refine (concatenate_pair_apply_left (s₁ := S8192x512) (s₂ := S8192x512) (1 : Fin 2) _ _ _ (ix2 r k) rfl
      (ix2 r (⟨k.val, h⟩ : Fin 512)) (Fin.forall_fin_two.mpr ⟨rfl, rfl⟩)).trans ?_
    rw [val_main_v15_apply, angle_eq]
    exact Ideal.sin_coe _
  · next h =>
    have hk := k.isLt
    refine (concatenate_pair_apply_right (s₁ := S8192x512) (s₂ := S8192x512) (1 : Fin 2) _ _ _ (ix2 r k) rfl rfl
      (ix2 r (⟨k.val - 512, by omega⟩ : Fin 512)) (Fin.forall_fin_two.mpr ⟨fun _ => rfl, fun h => absurd rfl h⟩) ?_).trans ?_
    · show k.val - 512 + 512 = k.val
      omega
    rw [val_main_v16_apply, angle_eq]
    exact Ideal.cos_coe _

/-- The updates' one start word is zero. -/
theorem first_word (i : S1.Idx) : (val_main_v18 (F := Ideal) i).toInt = 0 := by
  rw [val_main_v18_apply]; rfl

/-- Every update is zero. -/
theorem update_zero (i : S1024.Idx) : val_main_v19 (F := Ideal) i = (0 : EReal) := by
  rw [val_main_v19_apply, val_main_cst_2_apply]
  exact word_0

/-- Update `k` of the first row's reset lands at row 0, column `k`, and nowhere else. -/
theorem lands_first (k : Fin 1024) (r : Fin 8192) (c : Fin 1024) :
    scatter_S8192x1024_S1_S1024_0_0_0_0.resultIdx? (ix1 k) (val_main_v18 (F := Ideal)) = some (ix2 r c) ↔ r.val = 0 ∧ k = c := by
  have s0 : scatter_S8192x1024_S1_S1024_0_0_0_0.start (ix1 k) (val_main_v18 (F := Ideal)) 0 = 0 := first_word _
  have s1 : scatter_S8192x1024_S1_S1024_0_0_0_0.start (ix1 k) (val_main_v18 (F := Ideal)) 1 = 0 := rfl
  have w0 : scatter_S8192x1024_S1_S1024_0_0_0_0.window (ix1 k) 0 = 0 := rfl
  have w1 : scatter_S8192x1024_S1_S1024_0_0_0_0.window (ix1 k) 1 = k.val := rfl
  refine (resultIdx?_ix2 _ _ _ r c).trans ?_
  rw [s0, s1, w0, w1, Fin.ext_iff]
  omega

/-- The table with its first row reset is the embedding. -/
theorem reset_eq (r : Fin 8192) (c : Fin 1024) : val_main_v20 (F := Ideal) (ix2 r c) = embedding r.val c.val := by
  unfold val_main_v20 embedding
  split
  · next h =>
    exact scatter_set_hit _ _ _ _ _ _ (fun k _ => update_zero k) (ix1 c) ((lands_first c r c).2 ⟨h, rfl⟩)
  · next h =>
    refine (scatter_set_miss _ _ _ _ _ fun k hk => h ?_).trans (halves_eq r c)
    rw [eq_ix1 k] at hk
    exact ((lands_first _ r c).1 hk).1

end Cert.Proof.Ref

end
-- ==== Proof.Reference.lean ====
/-
The reference's result: row `r` is looked up at row `r` of the table, and every lookup is in range.
-/
module

public import proofs.«01_k».proof.Proof.RefRows
public import Idealize.ShloMosaic.Lib.Routing.Ops
public import Idealize.ShloMosaic.Lib.ReduceAll

@[expose] public section

set_option maxRecDepth 16384

noncomputable section

namespace Cert.Proof.Ref

open Idealize.ShloMosaic Idealize.ShloMosaic.TcCoe Idealize.ShloMosaic.ValueIdx Idealize.ShloMosaic.Routing
open Cert.ReferenceIdeal Cert.ReferenceIdeal.Gen Cert.ReferenceIdeal.Read

/-- The word looked up in row `r` is `r`: the position's 4096 taken off is put back. -/
theorem lookup_word (i : S8192.Idx) : val_main_v25 (F := Ideal) i = BitVec.ofNat 32 (i 0).val := by
  rw [val_main_v25_apply, val_main_v23_apply, val_main_v22_apply, val_main_v24_apply, val_main_c_3_apply, val_main_c_4_apply,
    val_main_v21_apply]
  show (4294963200#32 + BitVec.ofNat 32 (i 0).val) + 4096#32 = _
  rw [BitVec.add_comm 4294963200#32, BitVec.add_assoc]
  exact BitVec.add_zero _

/-- A row's number is not negative, so it is looked up as it is. -/
theorem start_word (i : S8192x1.Idx) : val_main_call0_v5 (F := Ideal) i = BitVec.ofNat 32 (i 0).val := by
  have h : (i 0).val < 8192 := (i 0).isLt
  have hneg : val_main_call0_v1 (F := Ideal) (idx_main_call0_v5 i) ≠ 1#1 := by
    rw [val_main_call0_v1_apply, lookup_word, val_main_call0_v0_apply, val_main_call0_c_apply]
    intro e
    have := IntOp.cmpi_slt.1 e
    rw [toInt_word (n := (idx_main_call0_v5 i 0).val) h] at this
    exact absurd this (by simp)
  rw [val_main_call0_v5_apply, val_main_call0_v4_apply]
  unfold Scalar.select
  exact (if_neg hneg).trans (lookup_word _)

/-- Every row's number lies between 0 and 8191. -/
theorem in_range (i : S8192x1.Idx) : val_main_call0_v11 (F := Ideal) i = 1#1 := by
  have h : (i 0).val < 8192 := (i 0).isLt
  have lo : val_main_call0_v7 (F := Ideal) i = 1#1 := by
    rw [val_main_call0_v7_apply, start_word, val_main_call0_v6_apply, val_main_call0_c_2_apply]
    refine IntOp.cmpi_sge.2 ?_
    rw [toInt_word h]
    show (0 : ℤ) ≤ _
    omega
  have hi : val_main_call0_v10 (F := Ideal) i = 1#1 := by
    rw [val_main_call0_v10_apply, start_word, val_main_call0_v9_apply, val_main_call0_v8_apply, val_main_call0_c_1_apply]
    refine IntOp.cmpi_sle.2 ?_
    rw [toInt_word h]
    show _ ≤ (8191 : ℤ)
    omega
  rw [val_main_call0_v11_apply, lo, hi]
  rfl

/-- So every row passes the range test. -/
theorem mask_one (i : S8192x1024.Idx) : val_main_call0_v14 (F := Ideal) i = 1#1 := by
  rw [val_main_call0_v14_apply]
  exact Host.reduce_andi_one _ _ _ _ _ rfl in_range

/-- The reference's result is the embedding. -/
theorem result_apply (r : Fin 8192) (k : Fin 1024) : val_main_v26 (F := Ideal) (ix2 r k) = embedding r.val k.val := by
  rw [val_main_v26_apply, mask_one]
  show val_main_call0_v13 (F := Ideal) (ix2 r k) = _
  unfold val_main_call0_v13
  exact (gather_row _ rfl rfl rfl rfl rfl _ _ r k r (start_word _) (by decide)).trans (reset_eq r k)

end Cert.Proof.Ref

end
-- ==== Proof.lean ====
/-
The claim, put together: the two kernels' runs, the reference's run, the named constant, and the equation of the results.
-/
module

public import proofs.«01_k».proof.Defs
public import proofs.«01_k».proof.Proof.WordRun
public import proofs.«01_k».proof.Proof.Result
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.ShloMosaic.ValueIdx Idealize.SL.Sem

/-- The reference's result array is the embedding, whatever its arguments hold. -/
theorem reference_eq (m : (ℓ : Loc Cert.ReferenceIdeal.nD Cert.ReferenceIdeal.τ Cert.ReferenceIdeal.sig) → Buf (Elt Ideal) ℓ)
    (c : Dev Cert.ReferenceIdeal.nD) : Cert.ReferenceIdeal.Value.res_main_v26 (F := Ideal) m c = table := by
  rw [Cert.ReferenceIdeal.Read.val_main_v26_eq]
  funext i
  rw [eq_ix2 i]
  exact Ref.result_apply (i 0) (i 1)

/-- The reference runs, leaves its arguments as they were, and ends with every counter at zero. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant: where the kernel prints a rounded word, the exact kernel has minus the logarithm of 10000, over 511. -/
theorem slope_named : preserves_Kernel_KernelIdeal :=
  IdealRules.named_const.statement Cert.KernelIdeal.κ "slope" .f32 0xBC93A762#32 ((-((Real.log 10000) * 511⁻¹) : ℝ) : EReal) rfl

/-- From memories that agree on the arguments, the exact kernel and the exact reference end with the same result: the
    embedding. -/
theorem same_result : algebraic_KernelIdeal_ReferenceIdeal := fun m ρ m' ρ' _ _ =>
  ⟨fun _ => table, kernel_run m ρ,
    (θ_run Cert.ReferenceIdeal.defs _ _).mono (fun _ h c => ⟨(h c).1.trans (reference_eq m' c), (h c).2⟩)
      (Cert.ReferenceIdeal.Value.run (F := Ideal) m' ρ')⟩

/-- Everything claimed. -/
theorem claim : Cert.Claim :=
  ⟨Cert.Kernel.Gen.facts, Cert.KernelIdeal.Gen.facts, Cert.ReferenceIdeal.Gen.facts, fun m ρ _ => WordRun.run_frame m ρ,
    fun m ρ _ => IdealRun.run_frame m ρ, reference_frame, slope_named, same_result⟩

end Cert.Proof

end
